-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x200x128 : Shape := ⟨3, ![4096, 200, 128]⟩
abbrev S200x128 : Shape := ⟨2, ![200, 128]⟩
abbrev S144x200x128 : Shape := ⟨3, ![144, 200, 128]⟩
abbrev S1x200x128 : Shape := ⟨3, ![1, 200, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x200x128, .f32⟩
  | .hbm, ⟨1, _⟩ => ⟨S200x128, .f32⟩
  | .hbm, ⟨2, _⟩ => ⟨S4096x200x128, .f32⟩
  | .local _ .vmem, ⟨0, _⟩ => ⟨S144x200x128, .f32⟩
  | .local _ .vmem, ⟨1, _⟩ => ⟨S144x200x128, .f32⟩
  | .local _ .vmem, ⟨2, _⟩ => ⟨S200x128, .f32⟩
  | .local _ .vmem, ⟨3, _⟩ => ⟨S144x200x128, .f32⟩
  | .local _ .vmem, ⟨4, _⟩ => ⟨S144x200x128, .f32⟩
  | _, _ => ⟨S4096x200x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![29], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S144x200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S144x200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x200x128 : Shape := ⟨3, ![4096, 200, 128]⟩
abbrev S200x128 : Shape := ⟨2, ![200, 128]⟩
abbrev S200 : Shape := ⟨1, ![200]⟩
abbrev S_ : Shape := ⟨0, ![]⟩
abbrev S200x1 : Shape := ⟨2, ![200, 1]⟩
abbrev S1 : Shape := ⟨1, ![1]⟩
abbrev S1x1 : Shape := ⟨2, ![1, 1]⟩
abbrev S1x200x128 : Shape := ⟨3, ![1, 200, 128]⟩

abbrev nBuf : Space → Nat
  | .hbm => 29
  | .vmem => 0
  | .smem => 0
  | _ => 0

abbrev bufTy : (tb : Table) → Fin (tcTables nBuf tb) → BufTy
  | .hbm, ⟨0, _⟩ => ⟨S4096x200x128, .f32⟩
  | .hbm, ⟨1, _⟩ => ⟨S200x128, .f32⟩
  | .hbm, ⟨2, _⟩ => ⟨S200, .i32⟩
  | .hbm, ⟨3, _⟩ => ⟨S_, .i32⟩
  | .hbm, ⟨4, _⟩ => ⟨S200, .i32⟩
  | .hbm, ⟨5, _⟩ => ⟨S200, .i1⟩
  | .hbm, ⟨6, _⟩ => ⟨S_, .i32⟩
  | .hbm, ⟨7, _⟩ => ⟨S200, .i32⟩
  | .hbm, ⟨8, _⟩ => ⟨S200, .i32⟩
  | .hbm, ⟨9, _⟩ => ⟨S200, .i32⟩
  | .hbm, ⟨10, _⟩ => ⟨S200x1, .i32⟩
  | .hbm, ⟨11, _⟩ => ⟨S1, .i32⟩
  | .hbm, ⟨12, _⟩ => ⟨S_, .i32⟩
  | .hbm, ⟨13, _⟩ => ⟨S200x1, .i32⟩
  | .hbm, ⟨14, _⟩ => ⟨S200x1, .i1⟩
  | .hbm, ⟨15, _⟩ => ⟨S1x1, .i32⟩
  | .hbm, ⟨16, _⟩ => ⟨S200x1, .i32⟩
  | .hbm, ⟨17, _⟩ => ⟨S200x1, .i1⟩
  | .hbm, ⟨18, _⟩ => ⟨S200x1, .i1⟩
  | .hbm, ⟨19, _⟩ => ⟨S_, .i1⟩
  | .hbm, ⟨20, _⟩ => ⟨S200, .i1⟩
  | .hbm, ⟨21, _⟩ => ⟨S200x128, .f32⟩
  | .hbm, ⟨22, _⟩ => ⟨S200x128, .i1⟩
  | .hbm, ⟨23, _⟩ => ⟨S_, .f32⟩
  | .hbm, ⟨24, _⟩ => ⟨S200x128, .f32⟩
  | .hbm, ⟨25, _⟩ => ⟨S200x128, .f32⟩
  | .hbm, ⟨26, _⟩ => ⟨S1x200x128, .f32⟩
  | .hbm, ⟨27, _⟩ => ⟨S4096x200x128, .f32⟩
  | .hbm, ⟨28, _⟩ => ⟨S4096x200x128, .f32⟩
  | _, _ => ⟨S4096x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.SameText.lean ====
/- The kernel read at machine words and the kernel read at exact numbers are one program.

   The two are printed from one text into two namespaces. What is proved of one at any float values holds of the other;
   this module states the equality the transfer needs. -/
module

public import proofs.«01_k».proof.Proof.Gen.Kernel
public import proofs.«01_k».proof.Proof.Gen.KernelIdeal

@[expose] public section

noncomputable section

namespace Cert.SameText

open Idealize.ShloMosaic Idealize.SL.Sem

variable {F : FTy → Type} [FloatOps F]

/-- The two programs' kernel bodies are the same at every label. -/
theorem bodies_same [Cert.Kernel.Facts] [Cert.KernelIdeal.Facts] :
    Cert.Kernel.defs₀ (F := F) = Cert.KernelIdeal.defs₀ (F := F) :=
  congrArg Defs.onTc (funext fun k => funext fun a =>
    match k, a with
    | 0, (_, _) => rfl
    | ⟨_ + 1, h⟩, _ => absurd h (Nat.not_lt.2 (Nat.le_add_left _ _)))

/-- So are their tables of bodies and regions. -/
theorem defs_same [Cert.Kernel.Facts] [Cert.KernelIdeal.Facts] :
    Cert.Kernel.defs (F := F) = Cert.KernelIdeal.defs (F := F) :=
  congrArg (Pipeline.defs (Cert.KernelIdeal.pcfgs (F := F))) bodies_same

end Cert.SameText

end
-- ==== Proof.Block.lean ====
/- What the kernel's body computes from one block.

   The body reads a block of 144 batch rows of `x` and the whole table `pe`, and stores their sum, the table spread
   over the batch axis. Here that sum is read at one index, and compared on two blocks that agree inside the array. -/
module

public import proofs.«01_k».proof.Proof.Gen.KernelIdeal.Skeleton
public import Idealize.ShloMosaic.Lib.Pipeline.Value
public import Idealize.ShloMosaic.Lib.ValueIdxCore

@[expose] public section

noncomputable section

namespace Cert.KernelIdeal.Block

open Cert.KernelIdeal Cert.KernelIdeal.Gen Idealize.ShloMosaic Idealize.ShloMosaic.ValueIdx

variable {F : FTy → Type} [FloatOps F]

/-- The table, given a leading axis of extent one and spread over the block's 144 batch rows, holds at `(b, s, d)` the
    table's entry `(s, d)`. -/
theorem spread_apply (P : Vec F S200x128 .f32) (b : Fin 144) (s : Fin 200) (d : Fin 128) :
    broadcastTo S144x200x128 (shapeCast S1x200x128 P shapeCasts_S200x128_S1x200x128) broadcasts_S1x200x128_S144x200x128
      (ix3 b s d) = P (ix2 s d) := by
  rw [broadcastTo_apply _ _ (ix3 b s d) (ix3 (0 : Fin 1) s d)
    (fun a => by match a with | ⟨0, _⟩ => rfl | ⟨1, _⟩ => rfl | ⟨2, _⟩ => rfl)]
  refine shapeCast_apply P _ _ (ix2 s d) ?_
  rw [Shape.rowMajor_val_two, Shape.rowMajor_val_three]
  show s.val * 128 + d.val = (0 * 200 + s.val) * 128 + d.val
  omega

/-- What the body stores at index `j` of the output block: `x`'s word there plus the table's word at `j`'s last two
    coordinates. -/
theorem pay_apply (X : Vec F S144x200x128 .f32) (P : Vec F S200x128 .f32) (j : S144x200x128.Idx) :
    k0_pay1 X P j = FloatOps.addf (X j) (P (ix2 (j 1) (j 2))) := by
  refine congrArg (FloatOps.addf (X j)) ?_
  rw [eq_ix3 j]
  exact spread_apply P (j 0) (j 1) (j 2)

/-- The stored block at an index depends on `x`'s block at that index alone. -/
theorem pay_congr {X Y : Vec F S144x200x128 .f32} (P : Vec F S200x128 .f32) {j : S144x200x128.Idx} (h : X j = Y j) :
    k0_pay1 X P j = k0_pay1 Y P j := by
  rw [pay_apply, pay_apply, h]

end Cert.KernelIdeal.Block

end
-- ==== Proof.Ragged.lean ====
/- The kernel's run over its 29 blocks, the last of them cut.

   The grid takes 4096 batch rows 144 at a time, so the last block holds 64 rows of the array and 80 rows past its end.
   What a staging buffer holds on those 80 rows is not known, and the body adds there too; the proof states the
   buffers of `x` and of the result on the rows inside the array only. -/
module

public import proofs.«01_k».proof.Proof.Block
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.KernelIdeal.Ragged

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of a whole three-axis access are zero, -/
theorem zero3 : (![0, 0, 0] : Fin 3 → Nat) = fun _ => 0 := by decide
/-- and those of a whole two-axis access. -/
theorem zero2 : (![0, 0] : Fin 2 → Nat) = fun _ => 0 := by decide

set_option maxHeartbeats 1000000 in
/-- The body on three whole buffers, `X` in the first and `P` in the second: it leaves those as they are and the third
    holding the sum of `X` and the spread `P`, whatever it held. -/
theorem body_sum (c : Dev nD) (i : grid0.Coords)
    (bx : Memref sig .tc .vmem S144x200x128 .f32) (hx : bx.IsWhole) (bp : Memref sig .tc .vmem S200x128 .f32) (hp : bp.IsWhole)
    (bo : Memref sig .tc .vmem S144x200x128 .f32) (ho : bo.IsWhole)
    (X : Vec F S144x200x128 .f32) (P : Vec F S200x128 .f32) (K : PUnit → sProp 𝕄) :
    iprop(owns (c : Thread nD τ) bx fullShare X ∗ owns (c : Thread nD τ) bp fullShare P
        ∗ (∃ d, owns (c : Thread nD τ) bo fullShare d)
        ∗ (iprop(owns (c : Thread nD τ) bx fullShare X ∗ owns (c : Thread nD τ) bp fullShare P
            ∗ owns (c : Thread nD τ) bo fullShare (k0_pay1 X P)) -∗ K ⟨⟩))
      ⊢ wp frame (wpE (defs₀ (F := F)) Variants.none c none) Set.univ (cc0__add_kernel i bx hx bp hp bo ho) K := by
  simp only [cc0__add_kernel_eq_skeleton]; unfold cc0__add_kernel_skel
  unfold owns
  iintro ⟨⟨%fx, %ex, Hx⟩, ⟨%fp, %ep, Hp⟩, ⟨%d, %fo, -, Ho⟩, Hk⟩
  subst ex ep
  sl_exec
  sl_step
  iapply Hk
  isplitl [Hx]
  · iexists fx; isplitr; · ipureintro; rfl
    iexact Hx
  isplitl [Hp]
  · iexists fp; isplitr; · ipureintro; rfl
    iexact Hp
  iexists _; isplitr
  swap; · iexact Ho
  ipureintro
  refine (View.read_writes_eq_canon _ _ _ fun y => ⟨_, List.mem_singleton_self _, View.mem_set_unit_zero zero3 inb_S144x200x128_S144x200x128_0_0_0 y⟩).trans ?_
  rw [View.canon_unit_zero zero3]
  exact congrArg₂ k0_pay1 (View.ld_unit_zero zero3 _ _) (View.ld_unit_zero zero2 _ _)

/-- `x`'s block at point `t`, filled out past the array's end with a word nothing reads. -/
def xfull (c : Dev nD) (t : Fin cfg0.N) : Vec F S144x200x128 .f32 :=
  win0_0.fill (grid0.coords t) (fun _ => Scalar.ofBits .f32 0#32) (iblk m c 0 t)

/-- The proof's account of the pipeline: the arrays start as launched; after the body at point `t` the buffer of `x`
    holds its block, the table's buffer the table, the result's the sum of the two. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => iblk m c 1 t
    | ⟨2, _⟩ => k0_pay1 (xfull m c t) (iblk m c 1 t)
  Φ _ := Pipeline.ΦA spec0 c
  q _ := fullShare
  owed _ := 0

/-- The arrays of the account are the launch contents. -/
theorem A_eq (c : Dev nD) (w : Fin cfg0.W) : (dats m 0 c).A w = V m c (Pipeline.arrRef spec0 w) := by
  dsimp only [dats]

/-- What the account says of each buffer after the body: `x`'s, -/
theorem after_x (c : Dev nD) (t : Fin cfg0.N) : (dats m 0 c).after 0 t = xfull m c t := by dsimp only [dats]
/-- the table's, -/
theorem after_pe (c : Dev nD) (t : Fin cfg0.N) : (dats m 0 c).after 1 t = iblk m c 1 t := by dsimp only [dats]
/-- the result's. -/
theorem after_out (c : Dev nD) (t : Fin cfg0.N) :
    (dats m 0 c).after 2 t = k0_pay1 (xfull m c t) (iblk m c 1 t) := by dsimp only [dats]

/-- Before the body, `x`'s buffer holds the block just fetched, and past the array's end whatever `d` it held. -/
theorem before_x (c : Dev nD) (t : Fin cfg0.N) (d) :
    (dats m 0 c).before 0 t d = win0_0.fill (grid0.coords t) d (iblk m c 0 t) := by
  unfold Dat.before; rw [if_pos (fetch0_0 t)]; rfl

/-- Before the body, the table's buffer holds the table at every point. -/
theorem before_pe (c : Dev nD) (t : Fin cfg0.N) (d) : (dats m 0 c).before 1 t d = iblk m c 1 t :=
  before0_1_of m (dats m 0 c) (A_eq m c 1) (after_pe m c) t d

/-- On the rows inside the array, the sum does not depend on what `x`'s buffer holds past the array's end. -/
theorem cut_sum (c : Dev nD) (t : Fin cfg0.N) (d : Vec F S144x200x128 .f32) :
    win0_2.cut (grid0.coords t) (k0_pay1 (xfull m c t) (iblk m c 1 t))
      = win0_2.cut (grid0.coords t) (k0_pay1 (win0_0.fill (grid0.coords t) d (iblk m c 0 t)) (iblk m c 1 t)) :=
  funext fun j => Block.pay_congr _
    ((win0_0.fill_xinj (grid0.coords t) _ (iblk m c 0 t) j).trans (win0_0.fill_xinj (grid0.coords t) d (iblk m c 0 t) j).symm)

/-- The body table's row at point `t` is the kernel's body on that point's buffers. -/
theorem defs₀_row (t : Fin cfg0.N) :
    defs₀ (F := F) .tc cfg0.body (cfg0.bodyArgs t (cfg0.slots t)) = bodyAt0 t := by
  unfold defs₀; rw [Defs.onTc_tc]

/-- At every point the body turns the buffers as fetched into the account's buffers: the table's exactly, `x`'s and the
    result's on the rows inside the array. -/
theorem body_obligation (c : Dev nD) :
    BodyObligationLoose (dats (F := F) m 0 c) (defs₀ (F := F)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  unfold bodyAt0
  iintro ⟨HΦ, Ho, ⟨%d0, H0⟩, ⟨%d1, H1⟩, ⟨%d2, H2⟩⟩
  rw [before_x m c t d0, before_pe m c t d1]
  iapply (body_sum c (grid0.coords t) _ _ _ _ _ _ (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    change _ ⊢ owns (c : Thread nD τ) (st0_0 t) fullShare
      (win0_0.fill (grid0.coords t) d0 (win0_0.cut (grid0.coords t) ((dats m 0 c).after 0 t)))
    rw [after_x, xfull, win0_0.cut_fill]
  isplitl [H1]
  · change _ ⊢ owns (c : Thread nD τ) (st0_1 t) fullShare ((dats m 0 c).after 1 t)
    rw [after_pe]
  · iexists (k0_pay1 (win0_0.fill (grid0.coords t) d0 (iblk m c 0 t)) (iblk m c 1 t))
    change _ ⊢ owns (c : Thread nD τ) (st0_2 t) fullShare
      (win0_2.fill (grid0.coords t) (k0_pay1 (win0_0.fill (grid0.coords t) d0 (iblk m c 0 t)) (iblk m c 1 t))
        (win0_2.cut (grid0.coords t) ((dats m 0 c).after 2 t)))
    rw [after_out, cut_sum m c t d0, win0_2.fill_cut]

set_option backward.isDefEq.respectTransparency.types false in
set_option maxHeartbeats 800000 in
/-- Every run of the kernel ends, with each array holding what the account says after the last write-back and every
    semaphore counter at zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The frame: every run ends with both argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Ragged

end
-- ==== Proof.Sum.lean ====
/- The function both programs compute: a batch of embeddings plus the table of positions. -/
module

public import Idealize.ShloMosaic.Lib.ValueIdxCore

@[expose] public section

noncomputable section

namespace Cert.PosSum

open Idealize.ShloMosaic Idealize.ShloMosaic.ValueIdx

variable {F : FTy → Type} [FloatOps F]

/-- `x + pe`, the table `pe` added to every batch row of `x`: at `(b, s, d)`, the word `x (b, s, d) + pe (s, d)`. -/
def posSum (x : Vec F ⟨3, ![4096, 200, 128]⟩ .f32) (pe : Vec F ⟨2, ![200, 128]⟩ .f32) : Vec F ⟨3, ![4096, 200, 128]⟩ .f32 :=
  fun i => FloatOps.addf (x i) (pe (ix2 (i 1) (i 2)))

end Cert.PosSum

end
-- ==== Proof.Array.lean ====
/- What the kernel's result array holds after the run.

   Point `t` writes back the rows of its block inside the array, each the sum of `x`'s row and the table; the 29 blocks
   cover the 4096 rows, so the array is `x` plus the table throughout. -/
module

public import proofs.«01_k».proof.Proof.Ragged
public import proofs.«01_k».proof.Proof.Sum
public import Idealize.ShloMosaic.Lib.Pipeline.ValueKit.Geometry

@[expose] public section

noncomputable section

namespace Cert.KernelIdeal.Array

open Cert.KernelIdeal Cert.KernelIdeal.Gen Cert.KernelIdeal.Ragged Cert.PosSum
open Idealize.ShloMosaic Idealize.ShloMosaic.TcCoe Idealize.ShloMosaic.ValueIdx Idealize.SL.Sem

variable {F : FTy → Type} [FloatOps F]
variable (m : (ℓ : Loc nD τ sig) → Buf (Elt F) ℓ) (ρ : Dev nD → PrngReg)

/-- The array the kernel is to leave on device `c`: `x` plus the table, of the arguments as launched. -/
abbrev goal (c : Dev nD) : Vec F S4096x200x128 .f32 :=
  posSum (m ((c : Thread nD τ).loc main_arg0)) (m ((c : Thread nD τ).loc main_arg1))

/-- The table's block at any point is the whole table. -/
theorem table_block (c : Dev nD) (t : Fin cfg0.N) (s : Fin 200) (d : Fin 128) :
    iblk m c 1 t (ix2 s d) = m ((c : Thread nD τ).loc main_arg1) (ix2 s d) := by
  refine congrArg (m ((c : Thread nD τ).loc main_arg1)) (funext fun a => Fin.ext ?_)
  match a with
  | ⟨0, _⟩ => show 0 * 200 + 1 * s.val = s.val; omega
  | ⟨1, _⟩ => show 0 * 128 + 1 * d.val = d.val; omega

/-- What the body leaves at index `y` of the rows inside the array, at point `t`, is the goal's word where the block puts
    `y`. -/
theorem block_goal (c : Dev nD) (t : Fin cfg0.N) (y : (win0_2.xblock (grid0.coords t)).Idx) :
    k0_pay1 (xfull m c t) (iblk m c 1 t) (win0_2.xinj (grid0.coords t) y) = goal m c ((win0_2.blk t).view.emb y) := by
  rw [Block.pay_apply]
  refine congrArg₂ FloatOps.addf (win0_0.fill_xinj (grid0.coords t) _ (iblk m c 0 t) y) ?_
  refine (table_block m c t _ _).trans (congrArg (m ((c : Thread nD τ).loc main_arg1)) ?_)
  funext a; apply Fin.ext
  match a with
  | ⟨0, _⟩ => show (y 1).val = 0 * 200 + 1 * (y 1).val; omega
  | ⟨1, _⟩ => show (y 2).val = 0 * 128 + 1 * (y 2).val; omega

/-- The result array after the run is `x` plus the table. -/
theorem final (c : Dev nD) : (dats m 0 c).arrAt 2 cfg0.N = goal m c :=
  (dats m 0 c).arrAt_eq_of_covers 2 _ (by decide +kernel) fun t _ y => by
    rw [after_out]; exact block_goal m c t y

/-- Every run of the kernel ends with the result array at `x` plus the table and the arguments as launched. -/
theorem run : θ_run defs (onTc (τ := τ) (main (F := F))) ⟨m, fun _ => 0, ρ⟩ (fun r => ∀ c : Dev nD,
      r.2.mem ((c.tc : Thread nD τ).loc main_v0) = goal m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.2.1.out_eq c 2).trans (final m c), (h.1.1 c).1, (h.1.1 c).2⟩)
    (θ_run_and (frame m ρ) (run_main m ρ))

end Cert.KernelIdeal.Array

end
-- ==== Proof.Lookup.lean ====
/- What the reference computes: looking up rows 0, 1, …, 199 of the table gives the table.

   The reference takes the rows of `pe` at the positions `0 … 199`. As lowered, the lookup first adds 200 to negative
   positions, then gathers the rows, then replaces by a NaN every row whose position is outside `0 … 199`. No position
   is negative and none is outside, so the lookup is `pe` itself. -/
module

public import proofs.«01_k».proof.Proof.Gen.ReferenceIdeal.Run
public import proofs.«01_k».proof.Proof.Sum
public import Idealize.ShloMosaic.Lib.Routing.Ops
public import Idealize.ShloMosaic.Lib.ReduceAll

@[expose] public section

noncomputable section

namespace Cert.ReferenceIdeal.Lookup

open Cert.ReferenceIdeal Cert.ReferenceIdeal.Gen Cert.PosSum
open Idealize.ShloMosaic Idealize.ShloMosaic.TcCoe Idealize.ShloMosaic.ValueIdx Idealize.SL.Sem

variable {F : FTy → Type} [FloatOps F]

/-- The positions looked up, as a column: `0 … 199`, with 200 added to any that is negative. -/
def column : IVec S200x1 32 :=
  broadcastInDim S200x1 ![0] bcast_S200_S200x1_0
    (select (cmpi .slt (iotaInDim S200 32 0) (broadcastInDim S200 ![] bcast_S_S200 (constantI S_ 32 0#32)))
      (addi (iotaInDim S200 32 0) (broadcastInDim S200 ![] bcast_S_S200 (constantI S_ 32 200#32))) (iotaInDim S200 32 0))

/-- Whether each position is inside the table: at least 0 and at most 199. -/
def inside : IVec S200x1 1 :=
  andi (cmpi .sge column (broadcastInDim S200x1 ![] bcast_S_S200x1 (constantI S_ 32 0#32)))
    (cmpi .sle column (broadcastInDim S200x1 ![0, 1] bcast_S1x1_S200x1_0_1
      (broadcastInDim S1x1 ![1] bcast_S1_S1x1_1 (constantI S1 32 199#32))))

/-- The rows taken of the table `P`: the gathered rows where the position is inside, a NaN elsewhere. -/
def taken (P : Vec F S200x128 .f32) : Vec F S200x128 .f32 :=
  select (broadcastInDim S200x128 ![0] bcast_S200_S200x128_0
      (Host.reduce IntOp.andi inside (constantI S_ 1 1#1) reducesTo_S200x1_S200_d1 h_S_))
    (Host.gather gather_S200x128_S200x1_S200x128_1_0_n_n_0_1_1128 P column)
    (broadcastInDim S200x128 ![] bcast_S_S200x128 (constant S_ .f32 0x7FC00000#32))

/-- A position below 200 is not negative, so it is kept; and it is inside the table. -/
theorem word_facts : ∀ s : Fin 200,
    Scalar.select (IntOp.cmpi .slt (BitVec.ofNat 32 s.val) 0#32) (IntOp.addi (BitVec.ofNat 32 s.val) 200#32) (BitVec.ofNat 32 s.val)
        = BitVec.ofNat 32 s.val
      ∧ IntOp.andi (IntOp.cmpi .sge (BitVec.ofNat 32 s.val) 0#32) (IntOp.cmpi .sle (BitVec.ofNat 32 s.val) 199#32) = 1#1 := by
  decide +kernel

/-- The position in row `s` of the column is `s`. -/
theorem column_apply (s : Fin 200) : column (ix2 s (0 : Fin 1)) = BitVec.ofNat 32 s.val :=
  (broadcastInDim_apply _ _ _ _ (ix1 s) (fun a => by match a with | ⟨0, _⟩ => rfl)).trans (word_facts s).1

/-- Every position is inside the table. -/
theorem inside_apply (i : S200x1.Idx) : inside i = 1#1 := by
  obtain ⟨s, z, rfl⟩ : ∃ (s : Fin 200) (z : Fin 1), i = ix2 s z := ⟨_, _, eq_ix2 i⟩
  obtain rfl : z = 0 := Subsingleton.elim _ _
  show IntOp.andi (IntOp.cmpi .sge (column (ix2 s 0)) 0#32) (IntOp.cmpi .sle (column (ix2 s 0)) 199#32) = 1#1
  rw [column_apply]
  exact (word_facts s).2

/-- The rows taken at `0 … 199` are the table. -/
theorem taken_eq (P : Vec F S200x128 .f32) : taken P = P := by
  funext j
  obtain ⟨s, d, rfl⟩ : ∃ (s : Fin 200) (d : Fin 128), j = ix2 s d := ⟨_, _, eq_ix2 j⟩
  refine (select_apply _ _ _ _).trans ?_
  rw [broadcastInDim_apply _ _ _ (ix2 s d) (ix1 s) (fun a => by match a with | ⟨0, _⟩ => rfl),
    Host.reduce_andi_one _ _ _ _ _ rfl inside_apply, select_one]
  exact Routing.gather_row _ rfl rfl rfl rfl rfl P column s d s (column_apply s) (by decide)

/-- The reference's sum of `x` and the taken rows, spread over the batch, is `x` plus the table. -/
theorem sum_eq (x : Vec F S4096x200x128 .f32) (P : Vec F S200x128 .f32) :
    addf x (broadcastInDim S4096x200x128 ![0, 1, 2] bcast_S1x200x128_S4096x200x128_0_1_2
      (broadcastInDim S1x200x128 ![1, 2] bcast_S200x128_S1x200x128_1_2 (taken P))) = posSum x P := by
  funext i
  rw [taken_eq]
  refine congrArg (FloatOps.addf (x i)) ?_
  refine (broadcastInDim_apply _ _ _ i (ix3 (0 : Fin 1) (i 1) (i 2))
    (fun a => by match a with | ⟨0, _⟩ => rfl | ⟨1, _⟩ => rfl | ⟨2, _⟩ => rfl)).trans ?_
  exact broadcastInDim_apply _ _ _ _ (ix2 (i 1) (i 2)) (fun a => by match a with | ⟨0, _⟩ => rfl | ⟨1, _⟩ => rfl)

/-- Every run of the reference ends with its result at `x` plus the table and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
          = posSum (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (sum_eq _ _), (h c).2⟩) (Value.run m ρ)

end Cert.ReferenceIdeal.Lookup

end
-- ==== Proof.lean ====
/- The proof of the five claims about the kernel: it runs and leaves its arguments as they were, at machine words and at
   exact real numbers; so does the reference; the kernel at exact numbers is its own text; and it computes what the
   reference computes. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.SameText
public import proofs.«01_k».proof.Proof.Array
public import proofs.«01_k».proof.Proof.Lookup
public import Idealize.ShloMosaic.Lib.Quiescent

@[expose] public section

noncomputable section

namespace Cert.Proof

open Idealize.ShloMosaic Idealize.SL.Sem

/-- The kernel at machine words runs, leaves its arguments as launched and every counter at zero: the frame proved of the
    same text at any float values, read at machine words. -/
theorem frame_words : Cert.quiescent_Kernel (hKernel := Cert.Kernel.Gen.facts) :=
  fun m ρ _ => by
    rw [Cert.SameText.defs_same]
    exact Cert.KernelIdeal.Ragged.frame (F := Bits) m ρ

/-- The kernel at exact numbers runs, leaves its arguments as launched and every counter at zero. -/
theorem frame_exact : Cert.quiescent_KernelIdeal (hKernelIdeal := Cert.KernelIdeal.Gen.facts) :=
  fun m ρ _ => Cert.KernelIdeal.Ragged.frame m ρ

/-- The reference runs, leaves its arguments as launched and, having no semaphores, every counter at zero. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Lookup.run m ρ)

/-- From the same arguments, the kernel and the reference both end with `x` plus the table. -/
theorem same_result : Cert.algebraic_KernelIdeal_ReferenceIdeal
    (hKernelIdeal := Cert.KernelIdeal.Gen.facts) (hReferenceIdeal := Cert.ReferenceIdeal.Gen.facts) :=
  fun m ρ m' ρ' _ hargs => ⟨fun c => Cert.KernelIdeal.Array.goal m c, Cert.KernelIdeal.Array.run m ρ,
    (θ_run Cert.ReferenceIdeal.defs _ _).mono
      (fun _ h c => ⟨(h c).1.trans (congrArg₂ Cert.PosSum.posSum (hargs c).1 (hargs c).2), (h c).2⟩)
      (Cert.ReferenceIdeal.Lookup.run m' ρ')⟩

/-- Everything claimed of the kernel. -/
theorem claim : Cert.Claim := ⟨Cert.Kernel.Gen.facts, Cert.KernelIdeal.Gen.facts, Cert.ReferenceIdeal.Gen.facts,
  frame_words, frame_exact, frame_reference, trivial, same_result⟩

end Cert.Proof

end
